-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S65536x128 : Shape := ⟨2, ![65536, 128]⟩
abbrev S1024x65536 : Shape := ⟨2, ![1024, 65536]⟩
abbrev S4096x128 : Shape := ⟨2, ![4096, 128]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S4096x1 : Shape := ⟨2, ![4096, 1]⟩

abbrev nBuf : Space → Nat
  | .hbm => 5
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S65536x128, .f32⟩
  | .hbm, ⟨2, _⟩ => ⟨S65536x128, .f32⟩
  | .hbm, ⟨3, _⟩ => ⟨S1024x65536, .f32⟩
  | .hbm, ⟨4, _⟩ => ⟨S1024x128, .f32⟩
  | .local _ .vmem, ⟨0, _⟩ => ⟨S1024x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S1024x4096, .f32⟩
  | .local _ .vmem, ⟨6, _⟩ => ⟨S1024x4096, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg0 : BitVec 32 := BitVec.ofNat 32 (i 0).val
  let c1_i32 : BitVec 32 := 1#32
  let v18 : BitVec 1 := Scalar.cmpi .eq arg0 c1_i32
  let v19 : BitVec 32 := Scalar.extui v18
  let c0_i32_6 : BitVec 32 := 0#32
  let v20 : BitVec 1 := Scalar.cmpi .ne v19 c0_i32_6
  v20

def k0_cond5 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "eps_sq" => some ((5316911940649 / 5316911983139663491615228241121378304 : ℝ) : EReal)
  | "log2e" => some (((Real.log 2)⁻¹ : ℝ) : EReal)
  | _ => none
-- ==== ReferenceIdeal.lean ====
abbrev S1024x128 : Shape := ⟨2, ![1024, 128]⟩
abbrev S65536x128 : Shape := ⟨2, ![65536, 128]⟩
abbrev S_ : Shape := ⟨0, ![]⟩
abbrev S1024 : Shape := ⟨1, ![1024]⟩
abbrev S1024x1 : Shape := ⟨2, ![1024, 1]⟩
abbrev S65536 : Shape := ⟨1, ![65536]⟩
abbrev S65536x1 : Shape := ⟨2, ![65536, 1]⟩
abbrev S128x65536 : Shape := ⟨2, ![128, 65536]⟩
abbrev S1024x65536 : Shape := ⟨2, ![1024, 65536]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S65536x128, .f32⟩
  | .hbm, ⟨2, _⟩ => ⟨S65536x128, .f32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x128, .f32⟩
  | .hbm, ⟨12, _⟩ => ⟨S1024x128, .f32⟩
  | .hbm, ⟨13, _⟩ => ⟨S65536x128, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x128, .f32⟩
  | .hbm, ⟨22, _⟩ => ⟨S65536x128, .f32⟩
  | .hbm, ⟨23, _⟩ => ⟨S128x65536, .f32⟩
  | .hbm, ⟨24, _⟩ => ⟨S1024x65536, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x65536, .f32⟩
  | .hbm, ⟨32, _⟩ => ⟨S1024x65536, .f32⟩
  | .hbm, ⟨33, _⟩ => ⟨S1024x65536, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S1024x65536, .f32⟩
  | .hbm, ⟨38, _⟩ => ⟨S1024x65536, .f32⟩
  | .hbm, ⟨39, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.Steps.lean ====
/- What one grid point leaves in each buffer, as a term over the body's named payloads.

   The grid has 32 points. Points 0 to 15 are the first pass over the 16 key blocks: they add up the exponentials of
   every row (`sumAt`), and point 15 folds the sum into one exponent. Points 16 to 31 are the second pass: each writes
   its block of the attention (`attnAt`) and adds its share of the readout (`accAt`); point 31 also writes the readout
   out (`outAt`). The normalized query (`qnAt`) is computed at point 0 and kept. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Readout

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

/-- The attention block in the output staging buffer after grid point `t`. -/
def attnAt (t : Fin cfg0.N) : Vec F S1024x4096 .f32 := (outsAt0 m c t.val t.isLt).1

/-- The readout in the output staging buffer after grid point `t`. -/
def outAt (t : Fin cfg0.N) : Vec F S1024x128 .f32 := (outsAt0 m c t.val t.isLt).2.1

/-- The accumulated readout after grid point `t`. -/
def accAt (t : Fin cfg0.N) : Vec F S1024x128 .f32 := (outsAt0 m c t.val t.isLt).2.2.1

/-- The row sums (from point 15 on: the row exponents) after grid point `t`. -/
def sumAt (t : Fin cfg0.N) : Vec F S1024x128 .f32 := (outsAt0 m c t.val t.isLt).2.2.2.1

/-- The normalized query after grid point `t`. -/
def qnAt (t : Fin cfg0.N) : Vec F S1024x128 .bf16 := (outsAt0 m c t.val t.isLt).2.2.2.2

/-- The query block at a point. -/
abbrev qblk (t : Fin cfg0.N) : Vec F S1024x128 .f32 := iblk m c 0 t

/-- The key block at a point. -/
abbrev kblk (t : Fin cfg0.N) : Vec F S4096x128 .f32 := iblk m c 1 t

/-- The value block at a point. -/
abbrev vblk (t : Fin cfg0.N) : Vec F S4096x128 .f32 := iblk m c 2 t

/-- The first lane of a row-replicated buffer: what the second pass reads of the row exponents. -/
def lane0 (l : Vec F S1024x128 .f32) : Vec F S1024x1 .f32 :=
  View.ld l (Rect.unit (s := S1024x128) ![0, 0] S1024x1.size inb_S1024x128_S1024x1_0_0)

/-- Point 0 leaves the normalized query. -/
theorem qn_first (t : Fin cfg0.N) (h : t.val = 0) : qnAt m c t = k0_pay1 (qblk m c t) := by
  unfold qnAt
  rw [outsAt0_A m c t (by omega) (by omega) (by omega) (by omega)]
  frame_out

/-- Point 0 clears the accumulated readout. -/
theorem acc_first (t : Fin cfg0.N) (h : t.val = 0) : accAt m c t = k0_pay2 := by
  unfold accAt
  rw [outsAt0_A m c t (by omega) (by omega) (by omega) (by omega)]
  frame_out

/-- Point 0 clears the row sums and adds the first block's. -/
theorem sum_first (t : Fin cfg0.N) (h : t.val = 0) :
    sumAt m c t = k0_pay5 (kblk m c t) (k0_pay1 (qblk m c t)) k0_pay3 := by
  unfold sumAt
  rw [outsAt0_A m c t (by omega) (by omega) (by omega) (by omega)]
  frame_out

/-- No point after the first touches the normalized query. -/
theorem qn_next (s t : Fin cfg0.N) (h : t.val = s.val + 1) : qnAt m c t = qnAt m c s := by
  have hN : t.val < 32 := t.isLt
  have e : s = ⟨t.val - 1, Nat.lt_of_le_of_lt (Nat.sub_le _ _) t.isLt⟩ := Fin.ext (by simp only; omega)
  subst e
  unfold qnAt
  by_cases h1 : t.val < 16
  · by_cases h2 : t.val % 16 = 15
    · rw [outsAt0_C m c t (by omega) h1 h2 (by omega)]; rfl
    · rw [outsAt0_B m c t (by omega) h1 h2 (by omega)]; rfl
  · by_cases h4 : t.val % 16 = 15
    · rw [outsAt0_E m c t (by omega) h1 (by omega) h4]; rfl
    · rw [outsAt0_D m c t (by omega) h1 (by omega) h4]; rfl

/-- The first pass does not touch the accumulated readout. -/
theorem acc_hold (s t : Fin cfg0.N) (h : t.val = s.val + 1) (h1 : t.val < 16) : accAt m c t = accAt m c s := by
  have e : s = ⟨t.val - 1, Nat.lt_of_le_of_lt (Nat.sub_le _ _) t.isLt⟩ := Fin.ext (by simp only; omega)
  subst e
  unfold accAt
  by_cases h2 : t.val % 16 = 15
  · rw [outsAt0_C m c t (by omega) h1 h2 (by omega)]; rfl
  · rw [outsAt0_B m c t (by omega) h1 h2 (by omega)]; rfl

/-- The second pass does not touch the row exponents. -/
theorem sum_hold (s t : Fin cfg0.N) (h : t.val = s.val + 1) (h1 : ¬t.val < 16) : sumAt m c t = sumAt m c s := by
  have hN : t.val < 32 := t.isLt
  have e : s = ⟨t.val - 1, Nat.lt_of_le_of_lt (Nat.sub_le _ _) t.isLt⟩ := Fin.ext (by simp only; omega)
  subst e
  unfold sumAt
  by_cases h4 : t.val % 16 = 15
  · rw [outsAt0_E m c t (by omega) h1 (by omega) h4]; rfl
  · rw [outsAt0_D m c t (by omega) h1 (by omega) h4]; rfl

/-- Points 1 to 14 add their block's row sums. -/
theorem sum_next (s t : Fin cfg0.N) (h : t.val = s.val + 1) (h1 : t.val < 15) :
    sumAt m c t = k0_pay5 (kblk m c t) (qnAt m c s) (sumAt m c s) := by
  have e : s = ⟨t.val - 1, Nat.lt_of_le_of_lt (Nat.sub_le _ _) t.isLt⟩ := Fin.ext (by simp only; omega)
  subst e
  unfold sumAt qnAt
  rw [outsAt0_B m c t (by omega) (by omega) (by omega) (by omega)]
  frame_out
  simp only [read_unread_whole]

/-- Point 15 adds the last block's row sums and folds the total into one exponent per row. -/
theorem sum_fold (s t : Fin cfg0.N) (h : t.val = s.val + 1) (h1 : t.val = 15) :
    sumAt m c t = k0_pay6 (k0_pay5 (kblk m c t) (qnAt m c s) (sumAt m c s)) := by
  have e : s = ⟨t.val - 1, Nat.lt_of_le_of_lt (Nat.sub_le _ _) t.isLt⟩ := Fin.ext (by simp only; omega)
  subst e
  unfold sumAt qnAt
  rw [outsAt0_C m c t (by omega) (by omega) (by omega) (by omega)]
  frame_out
  simp only [read_unread_whole]

/-- Every point of the second pass writes its block of the attention. -/
theorem attn_next (s t : Fin cfg0.N) (h : t.val = s.val + 1) (h1 : ¬t.val < 16) :
    attnAt m c t = k0_pay7 (kblk m c t) (qnAt m c s) (lane0 (sumAt m c s)) := by
  have hN : t.val < 32 := t.isLt
  have e : s = ⟨t.val - 1, Nat.lt_of_le_of_lt (Nat.sub_le _ _) t.isLt⟩ := Fin.ext (by simp only; omega)
  subst e
  unfold attnAt sumAt qnAt
  by_cases h4 : t.val % 16 = 15
  · rw [outsAt0_E m c t (by omega) h1 (by omega) h4]
    frame_out
    simp only [read_unread_whole]
    rfl
  · rw [outsAt0_D m c t (by omega) h1 (by omega) h4]
    frame_out
    simp only [read_unread_whole]
    rfl

/-- Every point of the second pass adds its share of the readout. -/
theorem acc_next (s t : Fin cfg0.N) (h : t.val = s.val + 1) (h1 : ¬t.val < 16) :
    accAt m c t = k0_pay8 (kblk m c t) (qnAt m c s) (lane0 (sumAt m c s)) (accAt m c s) (vblk m c t) := by
  have hN : t.val < 32 := t.isLt
  have e : s = ⟨t.val - 1, Nat.lt_of_le_of_lt (Nat.sub_le _ _) t.isLt⟩ := Fin.ext (by simp only; omega)
  subst e
  unfold accAt sumAt qnAt
  by_cases h4 : t.val % 16 = 15
  · rw [outsAt0_E m c t (by omega) h1 (by omega) h4]
    frame_out
    simp only [read_unread_whole]
    rfl
  · rw [outsAt0_D m c t (by omega) h1 (by omega) h4]
    frame_out
    simp only [read_unread_whole]
    rfl

/-- The last point writes the accumulated readout out. -/
theorem out_last (t : Fin cfg0.N) (h1 : t.val = 31) : outAt m c t = accAt m c t := by
  unfold outAt accAt
  rw [outsAt0_E m c t (by omega) (by omega) (by omega) (by omega)]
  frame_out

end Cert.KernelIdeal.Readout

end
-- ==== Proof.Consts.lean ====
/- The float constants of the two programs, as the extended reals they denote at the ideal instance. -/
module

public import proofs.«01_k».proof.KernelIdeal
public import Idealize.ShloMosaic.PureOps.IdealRules

@[expose] public section

noncomputable section

namespace Cert.Consts

open Idealize.ShloMosaic

/-- The reference's lower bound on a norm: the real number that the binary32 word of `1e-12` denotes. -/
def eps : ℝ := 9223372 / 2 ^ 63

/-- The bound is positive. -/
theorem eps_pos : 0 < eps := by unfold eps; norm_num

/-- The reference's word denotes `eps`. -/
theorem ofBits_eps : Ideal.ofBits .f32 0x2B8CBCCC#32 = ((eps : ℝ) : EReal) := by
  unfold eps
  simp [Ideal.ofBits, Ideal.ieee, -EReal.coe_mul]; norm_num

/-- The word of minus infinity denotes the bottom element. -/
theorem ofBits_neg_inf : Ideal.ofBits .f32 0xFF800000#32 = ⊥ := by
  simp [Ideal.ofBits, Ideal.ieee]

/-- The kernel's named bound on a sum of squares is the square of the reference's bound on a norm. -/
theorem named_eps : Named.named (F := Ideal) Cert.KernelIdeal.κ "eps_sq" (φ := .f32) 0x179ABE15#32 = ((eps ^ 2 : ℝ) : EReal) := by
  rw [IdealRules.named_const.ideal_named_scalar (φ := .f32) Cert.KernelIdeal.κ "eps_sq" 0x179ABE15#32
    ((5316911940649 / 5316911983139663491615228241121378304 : ℝ) : EReal) rfl]
  unfold eps
  congr 1
  norm_num

/-- The kernel's named factor is the reciprocal of the natural logarithm of two. -/
theorem named_log2e : Named.named (F := Ideal) Cert.KernelIdeal.κ "log2e" (φ := .f32) 0x3FB8AA3B#32 = (((Real.log 2)⁻¹ : ℝ) : EReal) :=
  IdealRules.named_const.ideal_named_scalar _ _ _ _ rfl

end Cert.Consts

end
-- ==== Proof.Spec.lean ====
/- The mathematics of the two programs over rows of extended reals, with no reference to either program.

   A row of the query or of the keys is divided by its norm, the norm kept at or above a positive bound. The result is
   always a real number: a row with an infinite entry has an infinite norm, and its quotients are zero. The similarities,
   their exponentials and the softmax are then real numbers as well. -/
module

public import proofs.«01_k».proof.Proof.Consts

@[expose] public section

noncomputable section

namespace Cert.Spec

open Idealize.ShloMosaic Cert.Consts

/-- An entry of a row divided by the row's norm, the norm kept at or above `eps`. -/
def unit {n : ℕ} (x : Fin n → EReal) (d : Fin n) : EReal :=
  Ideal.div (x d) (max (Ideal.sqrt (∑ y, x y * x y)) ((eps : ℝ) : EReal))

/-- The real number an entry of a normalized row is. -/
def unitR {n : ℕ} (x : Fin n → EReal) (d : Fin n) : ℝ := (unit x d).toReal

/-- A product of an extended real with itself is not negative. -/
theorem sq_nonneg' (a : EReal) : 0 ≤ a * a := by
  induction a with
  | bot => simp
  | top => simp
  | coe r => rw [← EReal.coe_mul]; exact_mod_cast mul_self_nonneg r

/-- A row with an infinite entry has an infinite sum of squares. -/
theorem sum_sq_top {n : ℕ} (x : Fin n → EReal) (d : Fin n) (h : x d = ⊤ ∨ x d = ⊥) : ∑ y, x y * x y = ⊤ := by
  refine top_le_iff.mp ?_
  have h1 : x d * x d = ⊤ := by rcases h with h | h <;> rw [h] <;> simp
  rw [← h1]
  exact Finset.single_le_sum (f := fun y => x y * x y) (fun y _ => sq_nonneg' _) (Finset.mem_univ d)

/-- A row is either all real or has an infinite entry. -/
theorem row_cases {n : ℕ} (x : Fin n → EReal) : (∃ a : Fin n → ℝ, ∀ d, x d = (a d : EReal)) ∨ ∃ d, x d = ⊤ ∨ x d = ⊥ := by
  by_cases h : ∃ d, x d = ⊤ ∨ x d = ⊥
  · exact .inr h
  · refine .inl ⟨fun d => (x d).toReal, fun d => (EReal.coe_toReal ?_ ?_).symm⟩
    · exact fun e => h ⟨d, .inl e⟩
    · exact fun e => h ⟨d, .inr e⟩

/-- A sum of real numbers, taken in the extended reals, is their real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of squares of a real row. -/
theorem sum_sq_coe {n : ℕ} (x : Fin n → EReal) (a : Fin n → ℝ) (h : ∀ d, x d = (a d : EReal)) :
    ∑ y, x y * x y = ((∑ y, a y * a y : ℝ) : EReal) := by
  rw [← coe_sum]
  exact Finset.sum_congr rfl fun y _ => by rw [h y, EReal.coe_mul]

/-- A real sum of squares is not negative. -/
theorem sum_sq_nonneg {n : ℕ} (a : Fin n → ℝ) : 0 ≤ ∑ y, a y * a y := Finset.sum_nonneg fun y _ => mul_self_nonneg _

/-- Bounding the sum of squares below by `eps ^ 2` bounds the norm below by `eps`. -/
theorem sqrt_max (s : ℝ) : Real.sqrt (max s (eps ^ 2)) = max (Real.sqrt s) eps := by
  have hm : Monotone Real.sqrt := fun _ _ h => Real.sqrt_le_sqrt h
  rw [hm.map_max, Real.sqrt_sq eps_pos.le]

/-- The maximum of two real numbers, taken in the extended reals. -/
theorem coe_max' (a b : ℝ) : max (a : EReal) (b : EReal) = ((max a b : ℝ) : EReal) := by
  have hm : Monotone fun r : ℝ => (r : EReal) := fun _ _ h => EReal.coe_le_coe_iff.mpr h
  exact hm.map_max.symm

/-- The reference's normalized entry of a real row. -/
theorem unit_real {n : ℕ} (x : Fin n → EReal) (a : Fin n → ℝ) (h : ∀ d, x d = (a d : EReal)) (d : Fin n) :
    unit x d = ((a d * (max (Real.sqrt (∑ y, a y * a y)) eps)⁻¹ : ℝ) : EReal) := by
  have hs := sum_sq_nonneg a
  have hp : 0 < max (Real.sqrt (∑ y, a y * a y)) eps := lt_max_of_lt_right eps_pos
  unfold unit
  rw [sum_sq_coe x a h, Ideal.sqrt_coe, if_neg (not_lt.mpr hs), coe_max', Ideal.div_coe hp.ne', h d, one_div, EReal.coe_mul]

/-- The kernel's reciprocal root of a real row's bounded sum of squares. -/
theorem rsqrt_real {n : ℕ} (x : Fin n → EReal) (a : Fin n → ℝ) (h : ∀ d, x d = (a d : EReal)) :
    Ideal.rsqrt (max (∑ y, x y * x y) ((eps ^ 2 : ℝ) : EReal)) = (((max (Real.sqrt (∑ y, a y * a y)) eps)⁻¹ : ℝ) : EReal) := by
  have hp : 0 < max (∑ y, a y * a y) (eps ^ 2) := lt_max_of_lt_right (pow_pos eps_pos 2)
  rw [sum_sq_coe x a h, coe_max', Ideal.rsqrt_coe, if_neg (not_lt.mpr hp.le), if_neg hp.ne', sqrt_max]

/-- The reference's normalized entry of a row with an infinite entry is zero. -/
theorem unit_top {n : ℕ} (x : Fin n → EReal) (h : ∃ d, x d = ⊤ ∨ x d = ⊥) (d : Fin n) : unit x d = 0 := by
  obtain ⟨e, he⟩ := h
  unfold unit
  rw [sum_sq_top x e he, show Ideal.sqrt ⊤ = ⊤ from rfl, max_eq_left le_top]
  show (if (⊤ : EReal) = 0 then _ else x d * ⊤⁻¹) = 0
  rw [if_neg EReal.top_ne_zero, EReal.inv_top, mul_zero]

/-- The kernel's reciprocal root of a row with an infinite entry is zero. -/
theorem rsqrt_top {n : ℕ} (x : Fin n → EReal) (h : ∃ d, x d = ⊤ ∨ x d = ⊥) :
    Ideal.rsqrt (max (∑ y, x y * x y) ((eps ^ 2 : ℝ) : EReal)) = 0 := by
  obtain ⟨e, he⟩ := h
  rw [sum_sq_top x e he, max_eq_left le_top]
  rfl

/-- A normalized entry is a real number. -/
theorem unit_eq {n : ℕ} (x : Fin n → EReal) (d : Fin n) : unit x d = (unitR x d : EReal) := by
  unfold unitR
  rcases row_cases x with ⟨a, h⟩ | h
  · rw [unit_real x a h, EReal.toReal_coe]
  · rw [unit_top x h]; simp

/-- The kernel normalizes by the reciprocal root and gets the same real number. -/
theorem mul_rsqrt {n : ℕ} (x : Fin n → EReal) (d : Fin n) :
    x d * Ideal.rsqrt (max (∑ y, x y * x y) ((eps ^ 2 : ℝ) : EReal)) = (unitR x d : EReal) := by
  rw [← unit_eq]
  rcases row_cases x with ⟨a, h⟩ | h
  · rw [unit_real x a h, rsqrt_real x a h, h d, EReal.coe_mul]
  · rw [unit_top x h, rsqrt_top x h, mul_zero]

/-- The kernel scales the reciprocal root of a query row by a real factor first: the entry is scaled by it. -/
theorem mul_scaled_rsqrt {n : ℕ} (L : ℝ) (x : Fin n → EReal) (d : Fin n) :
    x d * ((L : EReal) * Ideal.rsqrt (max (∑ y, x y * x y) ((eps ^ 2 : ℝ) : EReal))) = ((L * unitR x d : ℝ) : EReal) := by
  rw [mul_left_comm, mul_rsqrt, EReal.coe_mul]

end Cert.Spec

end
-- ==== Proof.Softmax.lean ====
/- The softmax of real similarities: by the reference's exponentials less a maximum, and by the kernel's powers of two. -/
module

public import proofs.«01_k».proof.Proof.Spec

@[expose] public section

noncomputable section

namespace Cert.Spec

open Idealize.ShloMosaic Cert.Consts

variable {n : ℕ}

/-- The sum of the exponentials of a row less one: what the kernel's first pass adds up. -/
def expSum (s : Fin n → ℝ) : ℝ := ∑ k, Real.exp (s k - 1)

/-- The softmax of a row of real numbers. -/
def soft (s : Fin n → ℝ) (k : Fin n) : ℝ := Real.exp (s k) / ∑ x, Real.exp (s x)

/-- The sum of exponentials less any number is positive. -/
theorem sum_exp_pos (s : Fin n → ℝ) (M : ℝ) (k : Fin n) : 0 < ∑ x, Real.exp (s x - M) :=
  Finset.sum_pos (fun _ _ => Real.exp_pos _) ⟨k, Finset.mem_univ k⟩

/-- Subtracting one number from the whole row does not change the softmax. -/
theorem soft_shift (s : Fin n → ℝ) (M : ℝ) (k : Fin n) :
    Real.exp (s k - M) * (∑ x, Real.exp (s x - M))⁻¹ = soft s k := by
  have h : ∀ x, Real.exp (s x - M) = Real.exp (s x) * Real.exp (-M) := fun x => by rw [← Real.exp_add, sub_eq_add_neg]
  have h0 : Real.exp (-M) ≠ 0 := (Real.exp_pos _).ne'
  simp only [h, ← Finset.sum_mul]
  unfold soft
  rw [mul_inv, div_eq_mul_inv]
  field_simp

/-- The reference's quotient of exponentials less a real number is the softmax. -/
theorem ref_soft (s : Fin n → ℝ) (M : ℝ) (k : Fin n) :
    Ideal.div (Ideal.exp ((s k : EReal) - (M : EReal))) (∑ x, Ideal.exp ((s x : EReal) - (M : EReal))) = (soft s k : EReal) := by
  simp only [← EReal.coe_sub, Ideal.exp_coe]
  rw [coe_sum, Ideal.div_coe (sum_exp_pos s M k).ne', one_div, ← EReal.coe_mul, soft_shift]

/-- A power of two of a multiple of the reciprocal logarithm of two is an exponential. -/
theorem exp2_log2e (a : ℝ) : Ideal.exp2 (((Real.log 2)⁻¹ * a : ℝ) : EReal) = (Real.exp a : EReal) := by
  have h2 : Real.log 2 ≠ 0 := (Real.log_pos (by norm_num)).ne'
  rw [Ideal.exp2_coe]
  congr 1
  show (2 : ℝ) ^ ((Real.log 2)⁻¹ * a) = _
  rw [Real.rpow_def_of_pos (by norm_num)]
  congr 1
  field_simp

/-- The kernel's summand of the first pass. -/
theorem pass_one_term (a : ℝ) :
    Ideal.exp2 ((((Real.log 2)⁻¹ * a : ℝ) : EReal) - (((Real.log 2)⁻¹ : ℝ) : EReal)) = (Real.exp (a - 1) : EReal) := by
  rw [← EReal.coe_sub, ← exp2_log2e]
  congr 2
  ring

/-- The kernel's exponent of a row: the base-two logarithm of the row's sum with the factor added back. -/
theorem fold_coe (l : ℝ) (hl : 0 < l) :
    Ideal.log (l : EReal) * (((Real.log 2)⁻¹ : ℝ) : EReal) + (((Real.log 2)⁻¹ : ℝ) : EReal)
      = (((Real.log 2)⁻¹ * (Real.log l + 1) : ℝ) : EReal) := by
  rw [Ideal.log_coe, if_neg (not_le.mpr hl), ← EReal.coe_mul, ← EReal.coe_add]
  congr 1
  ring

/-- The kernel's normalized exponential of the second pass is the softmax. -/
theorem pass_two_term (s : Fin n → ℝ) (k : Fin n) :
    Ideal.exp2 ((((Real.log 2)⁻¹ * s k : ℝ) : EReal) - (((Real.log 2)⁻¹ * (Real.log (expSum s) + 1) : ℝ) : EReal))
      = (soft s k : EReal) := by
  have hp : 0 < expSum s := sum_exp_pos s 1 k
  rw [← EReal.coe_sub, ← mul_sub, exp2_log2e, ← soft_shift s 1 k]
  congr 1
  rw [show s k - (Real.log (expSum s) + 1) = (s k - 1) - Real.log (expSum s) by ring, Real.exp_sub, Real.exp_log hp,
    div_eq_mul_inv, expSum]

/-- The maximum of finitely many real numbers and the bottom element is a real number, if there is one at all. -/
theorem fold_max_real {ι : Type*} (t : Finset ι) (f : ι → EReal) (hf : ∀ i, ∃ a : ℝ, f i = a) (ht : t.Nonempty) :
    ∃ a : ℝ, t.fold max ⊥ f = a := by
  classical
  induction ht using Finset.Nonempty.cons_induction with
  | singleton i =>
    obtain ⟨a, ha⟩ := hf i
    exact ⟨a, by rw [Finset.fold_singleton, ha, max_eq_left bot_le]⟩
  | cons i t hi ht ih =>
    obtain ⟨a, ha⟩ := hf i
    obtain ⟨b, hb⟩ := ih
    exact ⟨max a b, by rw [Finset.fold_cons, ha, hb, coe_max']⟩

end Cert.Spec

end
-- ==== Proof.Attn.lean ====
/- What both programs compute, as functions of the three argument arrays: the attention, a real number at every index, and
   the readout. -/
module

public import proofs.«01_k».proof.Proof.Softmax
public import Idealize.ShloMosaic.Lib.Pointwise

@[expose] public section

noncomputable section

namespace Cert.Spec

open Idealize.ShloMosaic Cert.Consts

/-- Row `r` of a matrix. -/
def row {a b : ℕ} (X : FVec Ideal ⟨2, ![a, b]⟩ .f32) (r : Fin a) : Fin b → EReal := fun d => X (ix2 r d)

/-- The similarity of a query row and a key row: the inner product of the normalized rows. -/
def sim {a n b : ℕ} (X : FVec Ideal ⟨2, ![a, b]⟩ .f32) (Y : FVec Ideal ⟨2, ![n, b]⟩ .f32) (r : Fin a) (k : Fin n) : ℝ :=
  ∑ d, unitR (row X r) d * unitR (row Y k) d

/-- The attention of a query row to a key row. -/
def attn {a n b : ℕ} (X : FVec Ideal ⟨2, ![a, b]⟩ .f32) (Y : FVec Ideal ⟨2, ![n, b]⟩ .f32) (r : Fin a) (k : Fin n) : ℝ :=
  soft (sim X Y r) k

/-- The readout: the attention against the values. -/
def readout {a n b e : ℕ} (X : FVec Ideal ⟨2, ![a, b]⟩ .f32) (Y : FVec Ideal ⟨2, ![n, b]⟩ .f32)
    (Z : FVec Ideal ⟨2, ![n, e]⟩ .f32) (r : Fin a) (d : Fin e) : EReal :=
  ∑ k, (attn X Y r k : EReal) * Z (ix2 k d)

/-- The products of normalized rows add up, in the extended reals, to their real inner product. -/
theorem sum_unit {a n b : ℕ} (X : FVec Ideal ⟨2, ![a, b]⟩ .f32) (Y : FVec Ideal ⟨2, ![n, b]⟩ .f32) (r : Fin a) (k : Fin n) :
    ∑ d, (unitR (row X r) d : EReal) * (unitR (row Y k) d : EReal) = (sim X Y r k : EReal) := by
  unfold sim
  rw [← coe_sum]
  exact Finset.sum_congr rfl fun d _ => by rw [EReal.coe_mul]

/-- The same with the query rows scaled by a real factor first. -/
theorem sum_scaled_unit {a n b : ℕ} (L : ℝ) (X : FVec Ideal ⟨2, ![a, b]⟩ .f32) (Y : FVec Ideal ⟨2, ![n, b]⟩ .f32) (r : Fin a)
    (k : Fin n) :
    ∑ d, ((L * unitR (row X r) d : ℝ) : EReal) * (unitR (row Y k) d : EReal) = ((L * sim X Y r k : ℝ) : EReal) := by
  unfold sim
  rw [Finset.mul_sum, ← coe_sum]
  exact Finset.sum_congr rfl fun d _ => by rw [← EReal.coe_mul, mul_assoc]

end Cert.Spec

end
-- ==== Proof.Payloads.lean ====
/- The body's payloads at the ideal instance, each read at an index. -/
module

public import proofs.«01_k».proof.Proof.Steps
public import proofs.«01_k».proof.Proof.Attn
public import Idealize.ShloMosaic.Lib.Pointwise

@[expose] public section

set_option maxRecDepth 16384

noncomputable section

namespace Cert.KernelIdeal.Readout

open Cert.KernelIdeal Cert.KernelIdeal.Gen Idealize.ShloMosaic Idealize.ShloMosaic.TcCoe Idealize.SL.Sem
open Cert.Spec Cert.Consts

/-- The factor the kernel folds into the query: the reciprocal of the natural logarithm of two. -/
abbrev L : ℝ := (Real.log 2)⁻¹

/-- The normalized query, scaled by `L`. -/
theorem pay1_at (q : FVec Ideal S1024x128 .f32) (r : Fin 1024) (d : Fin 128) :
    k0_pay1 (F := Ideal) q (ix2 r d) = ((L * unitR (row q r) d : ℝ) : EReal) := by
  rw [← mul_scaled_rsqrt, ← named_eps, ← named_log2e]
  pointwise [k0_pay1, row]

/-- The cleared readout. -/
theorem pay2_at (j : S1024x128.Idx) : k0_pay2 (F := Ideal) j = (0 : EReal) := by
  pointwise [k0_pay2]

/-- The cleared row sums. -/
theorem pay3_at (j : S1024x128.Idx) : k0_pay3 (F := Ideal) j = (0 : EReal) := by
  pointwise [k0_pay3]

/-- The normalized keys of a block. -/
theorem pay4_at (k : FVec Ideal S4096x128 .f32) (j : Fin 4096) (d : Fin 128) :
    k0_pay4 (F := Ideal) k (ix2 j d) = (unitR (row k j) d : EReal) := by
  rw [← mul_rsqrt, ← named_eps]
  pointwise [k0_pay4, row]

/-- The similarities of the normalized query with the block's keys, scaled by `L`, where `X` is the query's source. -/
theorem sims_at (X : FVec Ideal S1024x128 .f32) (k : FVec Ideal S4096x128 .f32) (q : FVec Ideal S1024x128 .bf16)
    (hq : ∀ r d, q (ix2 r d) = ((L * unitR (row X r) d : ℝ) : EReal)) (r : Fin 1024) (j : Fin 4096) :
    (∑ d, q (ix2 r d) * k0_pay4 (F := Ideal) k (ix2 j d) : EReal) = ((L * sim X k r j : ℝ) : EReal) := by
  rw [← sum_scaled_unit]
  exact Finset.sum_congr rfl fun d _ => by rw [hq, pay4_at]

/-- The row sums with a block's exponentials added. -/
theorem pay5_at (X : FVec Ideal S1024x128 .f32) (k : FVec Ideal S4096x128 .f32) (q : FVec Ideal S1024x128 .bf16)
    (l : FVec Ideal S1024x128 .f32)
    (hq : ∀ r d, q (ix2 r d) = ((L * unitR (row X r) d : ℝ) : EReal)) (r : Fin 1024) (d : Fin 128) :
    k0_pay5 (F := Ideal) k q l (ix2 r d) = (l (ix2 r d) : EReal) + ((∑ j, Real.exp (sim X k r j - 1) : ℝ) : EReal) := by
  have h : k0_pay5 (F := Ideal) k q l (ix2 r d) = (l (ix2 r d) : EReal)
      + ∑ j : Fin 4096, Ideal.exp2 ((∑ e, q (ix2 r e) * k0_pay4 (F := Ideal) k (ix2 j e) : EReal)
        - Named.named (F := Ideal) κ "log2e" (φ := .f32) 0x3FB8AA3B#32) := by
    pointwise [k0_pay5]
    rfl
  rw [h, ← coe_sum]
  refine congrArg _ (Finset.sum_congr rfl fun j _ => ?_)
  rw [sims_at X k q hq, named_log2e, pass_one_term]

/-- The row exponents folded from the row sums. -/
theorem pay6_at (l : FVec Ideal S1024x128 .f32) (s : ℝ) (hs : 0 < s) (r : Fin 1024) (d : Fin 128)
    (hl : l (ix2 r d) = (s : EReal)) :
    k0_pay6 (F := Ideal) l (ix2 r d) = ((L * (Real.log s + 1) : ℝ) : EReal) := by
  rw [← fold_coe s hs, ← hl, ← named_log2e]
  pointwise [k0_pay6]

/-- The attention block from the row exponents. -/
theorem pay7_at (X : FVec Ideal S1024x128 .f32) (k : FVec Ideal S4096x128 .f32) (q : FVec Ideal S1024x128 .bf16)
    (l : FVec Ideal S1024x128 .f32)
    (hq : ∀ r d, q (ix2 r d) = ((L * unitR (row X r) d : ℝ) : EReal)) (r : Fin 1024) (j : Fin 4096) (e : ℝ)
    (hl : l (ix2 r 0) = (e : EReal)) :
    k0_pay7 (F := Ideal) k q (lane0 l) (ix2 r j) = Ideal.exp2 (((L * sim X k r j : ℝ) : EReal) - (e : EReal)) := by
  rw [← sims_at X k q hq, ← hl]
  pointwise [k0_pay7, lane0]
  rfl

/-- The readout with a block's share added. -/
theorem pay8_at (k : FVec Ideal S4096x128 .f32) (q : FVec Ideal S1024x128 .bf16) (l : FVec Ideal S1024x1 .f32)
    (a : FVec Ideal S1024x128 .f32) (v : FVec Ideal S4096x128 .f32) (r : Fin 1024) (d : Fin 128) :
    k0_pay8 (F := Ideal) k q l a v (ix2 r d)
      = (a (ix2 r d) : EReal) + ∑ j : Fin 4096, k0_pay7 (F := Ideal) k q l (ix2 r j) * v (ix2 j d) := by
  pointwise [k0_pay8]

end Cert.KernelIdeal.Readout

end
-- ==== Proof.Blocks.lean ====
/- The grid's blocks: which rows of the arguments each point reads, and sums over all keys cut into the blocks. -/
module

public import proofs.«01_k».proof.Proof.Steps
public import proofs.«01_k».proof.Proof.Attn
public import Idealize.ShloMosaic.Lib.Pointwise

@[expose] public section

set_option maxRecDepth 16384

noncomputable section

namespace Cert.KernelIdeal.Readout

open Cert.KernelIdeal Cert.KernelIdeal.Gen Idealize.ShloMosaic Idealize.ShloMosaic.TcCoe Idealize.SL.Sem
open Cert.Spec

/-- Row `j` of key block `b` among all the keys; block numbers wrap around after the sixteenth. -/
def kix (b : ℕ) (j : Fin 4096) : Fin 65536 := ⟨b % 16 * 4096 + j.val, by have := j.isLt; omega⟩

/-- The number of grid points. -/
theorem points : cfg0.N = 32 := by decide +kernel

/-- The blocks the windows hold at a grid point. -/
theorem idx : ∀ t : Fin cfg0.N,
    win0_0.index t = ![0, 0] ∧ win0_1.index t = ![t.val % 16, 0] ∧ win0_2.index t = ![t.val - 16, 0]
      ∧ win0_3.index t = ![0, t.val - 16] ∧ win0_4.index t = ![0, 0] :=
  (by decide +kernel : ∀ t : Fin grid0.N,
    win0_0.index t = ![0, 0] ∧ win0_1.index t = ![t.val % 16, 0] ∧ win0_2.index t = ![t.val - 16, 0]
      ∧ win0_3.index t = ![0, t.val - 16] ∧ win0_4.index t = ![0, 0])

/-- A sum over all the keys, cut into the sixteen blocks. -/
theorem sum_blocks {M : Type*} [AddCommMonoid M] (f : Fin 65536 → M) :
    ∑ b ∈ Finset.range 16, ∑ j : Fin 4096, f (kix b j) = ∑ k, f k := by
  rw [Finset.sum_range, ← Fintype.sum_prod_type' (f := fun (b : Fin 16) (j : Fin 4096) => f (kix b j))]
  refine Fintype.sum_equiv (finProdFinEquiv.trans (finCongr (by norm_num))) _ _ fun x => congrArg f (Fin.ext ?_)
  have h := x.1.isLt
  simp only [kix, Equiv.trans_apply, finCongr_apply, Fin.val_cast, finProdFinEquiv_apply_val]
  omega

/-- Every key lies in one of the blocks. -/
theorem kix_div_mod (k : Fin 65536) : kix (k.val / 4096) ⟨k.val % 4096, Nat.mod_lt _ (by norm_num)⟩ = k :=
  Fin.ext (by have := k.isLt; simp only [kix]; omega)

variable (m : (ℓ : Loc nD τ sig) → Buf (Elt Ideal) ℓ) (c : Dev nD)

/-- The query argument. -/
abbrev argQ : FVec Ideal S1024x128 .f32 := m ((c : Thread nD τ).loc main_arg0)

/-- The keys argument. -/
abbrev argK : FVec Ideal S65536x128 .f32 := m ((c : Thread nD τ).loc main_arg1)

/-- The values argument. -/
abbrev argV : FVec Ideal S65536x128 .f32 := m ((c : Thread nD τ).loc main_arg2)

/-- The query block is the whole query. -/
theorem qblk_eq (t : Fin cfg0.N) : qblk m c t = argQ m c := by
  blk_ext! [iblk, V, idx t]

/-- Point `t` reads key block `t % 16`. -/
theorem kblk_at (t : Fin cfg0.N) (j : Fin 4096) (d : Fin 128) : kblk m c t (ix2 j d) = argK m c (ix2 (kix t.val j) d) := by
  blk_ext [iblk, V, idx t, kix]

/-- In the second pass, point `t` reads value block `t - 16`. -/
theorem vblk_at (t : Fin cfg0.N) (h : 16 ≤ t.val) (j : Fin 4096) (d : Fin 128) :
    vblk m c t (ix2 j d) = argV m c (ix2 (kix t.val j) d) := by
  blk_ext [iblk, V, idx t, kix]

/-- The similarities of the query with a point's key block. -/
theorem sim_kblk (t : Fin cfg0.N) (r : Fin 1024) (j : Fin 4096) :
    sim (argQ m c) (kblk m c t) r j = sim (argQ m c) (argK m c) r (kix t.val j) := by
  have h : row (kblk m c t) j = row (argK m c) (kix t.val j) := funext fun d => kblk_at m c t j d
  unfold sim
  rw [h]

end Cert.KernelIdeal.Readout

end
-- ==== Proof.Chain.lean ====
/- What the buffers hold after every grid point, by induction over the points. -/
module

public import proofs.«01_k».proof.Proof.Payloads
public import proofs.«01_k».proof.Proof.Blocks

@[expose] public section

set_option maxRecDepth 16384

noncomputable section

namespace Cert.KernelIdeal.Readout

open Cert.KernelIdeal Cert.KernelIdeal.Gen Idealize.ShloMosaic Idealize.ShloMosaic.TcCoe Idealize.SL.Sem
open Cert.Spec Cert.Consts

variable (m : (ℓ : Loc nD τ sig) → Buf (Elt Ideal) ℓ) (c : Dev nD)

/-- Every point but the first has a predecessor. -/
theorem exists_pred (t : Fin cfg0.N) (n : ℕ) (h : t.val = n + 1) : ∃ s : Fin cfg0.N, t.val = s.val + 1 ∧ s.val = n :=
  ⟨⟨n, by have := t.isLt; omega⟩, h, rfl⟩

/-- Key blocks repeat after the sixteenth. -/
theorem kix_add (b : ℕ) (j : Fin 4096) : kix (16 + b) j = kix b j :=
  Fin.ext (by simp only [kix]; omega)

/-- The normalized query after every point. -/
theorem qn_at (n : ℕ) : ∀ (t : Fin cfg0.N), t.val = n → ∀ r d,
    qnAt m c t (ix2 r d) = ((L * unitR (row (argQ m c) r) d : ℝ) : EReal) := by
  induction n with
  | zero =>
    intro t h r d
    rw [qn_first m c t h, qblk_eq]
    exact pay1_at _ r d
  | succ n ih =>
    intro t h r d
    obtain ⟨s, hs, hn⟩ := exists_pred t n h
    rw [qn_next m c s t hs]
    exact ih s hn r d

/-- The first pass's row sum over the first `n` key blocks. -/
def partSum (n : ℕ) (r : Fin 1024) : ℝ :=
  ∑ b ∈ Finset.range n, ∑ j : Fin 4096, Real.exp (sim (argQ m c) (argK m c) r (kix b j) - 1)

/-- Over all the blocks it is the sum over all the keys. -/
theorem partSum_all (r : Fin 1024) : partSum m c 16 r = expSum (sim (argQ m c) (argK m c) r) :=
  sum_blocks fun k => Real.exp (sim (argQ m c) (argK m c) r k - 1)

/-- One block's addition: a buffer holding the sum over the blocks before point `t` holds the sum with block `t`
    after it. -/
theorem pay5_part (t : Fin cfg0.N) (q : FVec Ideal S1024x128 .bf16) (l : FVec Ideal S1024x128 .f32)
    (hq : ∀ r d, q (ix2 r d) = ((L * unitR (row (argQ m c) r) d : ℝ) : EReal))
    (hl : ∀ r d, l (ix2 r d) = ((partSum m c t.val r : ℝ) : EReal)) (r : Fin 1024) (d : Fin 128) :
    k0_pay5 (F := Ideal) (kblk m c t) q l (ix2 r d) = ((partSum m c (t.val + 1) r : ℝ) : EReal) := by
  refine (pay5_at (argQ m c) (kblk m c t) q l hq r d).trans ?_
  rw [hl, ← EReal.coe_add]
  unfold partSum
  rw [Finset.sum_range_succ]
  simp only [sim_kblk]

/-- The row sums after each of the points 0 to 14. -/
theorem sum_at (n : ℕ) : ∀ (t : Fin cfg0.N), t.val = n → n < 15 → ∀ r d,
    sumAt m c t (ix2 r d) = ((partSum m c (t.val + 1) r : ℝ) : EReal) := by
  induction n with
  | zero =>
    intro t h _ r d
    rw [sum_first m c t h, qblk_eq]
    refine pay5_part m c t _ _ (fun r d => pay1_at _ r d) (fun r d => ?_) r d
    refine (pay3_at _).trans ?_
    rw [h]
    simp [partSum]
  | succ n ih =>
    intro t h h1 r d
    obtain ⟨s, hs, hn⟩ := exists_pred t n h
    rw [sum_next m c s t hs (by omega)]
    refine pay5_part m c t _ _ (qn_at m c n s hn) (fun r d => ?_) r d
    rw [ih s hn (by omega) r d, hs]

/-- The row exponents: what the row sums fold into. -/
def rowExp (r : Fin 1024) : ℝ := L * (Real.log (expSum (sim (argQ m c) (argK m c) r)) + 1)

/-- The row exponents after every point from 15 on. -/
theorem exp_at (n : ℕ) : ∀ (t : Fin cfg0.N), t.val = n + 15 → ∀ r d,
    sumAt m c t (ix2 r d) = ((rowExp m c r : ℝ) : EReal) := by
  induction n with
  | zero =>
    intro t h r d
    obtain ⟨s, hs, hn⟩ := exists_pred t 14 h
    rw [sum_fold m c s t hs (by omega)]
    refine pay6_at _ _ (sum_exp_pos _ 1 (kix 0 0)) r d ?_
    refine (pay5_part m c t _ _ (qn_at m c _ s rfl) (fun r d => ?_) r d).trans ?_
    · rw [sum_at m c 14 s hn (by omega) r d, hs]
    · rw [show t.val + 1 = 16 by omega, partSum_all]
      rfl
  | succ n ih =>
    intro t h r d
    obtain ⟨s, hs, hn⟩ := exists_pred t (n + 15) (by omega)
    rw [sum_hold m c s t hs (by omega)]
    exact ih s hn r d

/-- The second pass's block: the attention of the query rows to the keys of block `t`. -/
theorem pay7_attn (t : Fin cfg0.N) (q : FVec Ideal S1024x128 .bf16) (l : FVec Ideal S1024x128 .f32)
    (hq : ∀ r d, q (ix2 r d) = ((L * unitR (row (argQ m c) r) d : ℝ) : EReal))
    (hl : ∀ r d, l (ix2 r d) = ((rowExp m c r : ℝ) : EReal)) (r : Fin 1024) (j : Fin 4096) :
    k0_pay7 (F := Ideal) (kblk m c t) q (lane0 l) (ix2 r j)
      = ((attn (argQ m c) (argK m c) r (kix t.val j) : ℝ) : EReal) := by
  refine (pay7_at (argQ m c) (kblk m c t) q l hq r j _ (hl r 0)).trans ?_
  rw [sim_kblk]
  exact pass_two_term _ _

/-- Every point of the second pass leaves its block of the attention. -/
theorem attn_at (t : Fin cfg0.N) (h : 16 ≤ t.val) (r : Fin 1024) (j : Fin 4096) :
    attnAt m c t (ix2 r j) = ((attn (argQ m c) (argK m c) r (kix t.val j) : ℝ) : EReal) := by
  obtain ⟨s, hs, hn⟩ := exists_pred t (t.val - 16 + 15) (by omega)
  rw [attn_next m c s t hs (by omega)]
  exact pay7_attn m c t _ _ (qn_at m c _ s rfl) (exp_at m c _ s hn) r j

/-- The readout over the first `n` blocks of keys. -/
def partOut (n : ℕ) (r : Fin 1024) (d : Fin 128) : EReal :=
  ∑ b ∈ Finset.range n, ∑ j : Fin 4096,
    ((attn (argQ m c) (argK m c) r (kix b j) : ℝ) : EReal) * argV m c (ix2 (kix b j) d)

/-- Over all the blocks it is the readout. -/
theorem partOut_all (r : Fin 1024) (d : Fin 128) :
    partOut m c 16 r d = readout (argQ m c) (argK m c) (argV m c) r d :=
  sum_blocks fun k => ((attn (argQ m c) (argK m c) r k : ℝ) : EReal) * argV m c (ix2 k d)

/-- The accumulated readout stays zero through the first pass. -/
theorem acc_zero (n : ℕ) : ∀ (t : Fin cfg0.N), t.val = n → n < 16 → ∀ i, accAt m c t i = (0 : EReal) := by
  induction n with
  | zero =>
    intro t h _ i
    rw [acc_first m c t h]
    exact pay2_at i
  | succ n ih =>
    intro t h h1 i
    obtain ⟨s, hs, hn⟩ := exists_pred t n h
    rw [acc_hold m c s t hs (by omega)]
    exact ih s hn (by omega) i

/-- The accumulated readout from point 15 on. -/
theorem acc_at (n : ℕ) : ∀ (t : Fin cfg0.N), t.val = n + 15 → ∀ r d, accAt m c t (ix2 r d) = partOut m c n r d := by
  induction n with
  | zero =>
    intro t h r d
    refine (acc_zero m c 15 t h (by omega) _).trans ?_
    simp [partOut]
  | succ n ih =>
    intro t h r d
    obtain ⟨s, hs, hn⟩ := exists_pred t (n + 15) (by omega)
    rw [acc_next m c s t hs (by omega)]
    refine (pay8_at _ _ _ _ _ r d).trans ?_
    rw [ih s hn r d]
    unfold partOut
    rw [Finset.sum_range_succ]
    refine congrArg _ (Finset.sum_congr rfl fun j _ => ?_)
    rw [pay7_attn m c t _ _ (qn_at m c _ s rfl) (exp_at m c _ s hn) r j, vblk_at m c t (by omega) j d,
      show t.val = 16 + n by omega, kix_add]

/-- The last point leaves the whole readout. -/
theorem out_at (t : Fin cfg0.N) (h : t.val = 31) (r : Fin 1024) (d : Fin 128) :
    outAt m c t (ix2 r d) = readout (argQ m c) (argK m c) (argV m c) r d := by
  rw [out_last m c t h, acc_at m c 16 t h r d, partOut_all]

end Cert.KernelIdeal.Readout

end
-- ==== Proof.Arrays.lean ====
/- What the two result arrays hold after the run. -/
module

public import proofs.«01_k».proof.Proof.Chain
public import proofs.«01_k».proof.Proof.Gen.KernelIdeal.Value

@[expose] public section

set_option maxRecDepth 16384

noncomputable section

namespace Cert.KernelIdeal.Readout

open Cert.KernelIdeal Cert.KernelIdeal.Gen Idealize.ShloMosaic Idealize.ShloMosaic.TcCoe Idealize.SL.Sem
open Cert.Spec Cert.Consts

variable (m : (ℓ : Loc nD τ sig) → Buf (Elt Ideal) ℓ) (c : Dev nD)

/-- The attention array. -/
def attnArr : FVec Ideal S1024x65536 .f32 := fun i => ((attn (argQ m c) (argK m c) (i 0) (i 1) : ℝ) : EReal)

/-- The readout array. -/
def outArr : FVec Ideal S1024x128 .f32 := fun i => readout (argQ m c) (argK m c) (argV m c) (i 0) (i 1)

/-- The attention array at an index. -/
theorem attnArr_at (i : S1024x65536.Idx) (r : Fin 1024) (k : Fin 65536) (h0 : (i 0).val = r.val) (h1 : (i 1).val = k.val) :
    attnArr m c i = ((attn (argQ m c) (argK m c) r k : ℝ) : EReal) := by
  have e0 : i 0 = r := Fin.ext h0
  have e1 : i 1 = k := Fin.ext h1
  unfold attnArr
  rw [e0, e1]

/-- The attention window is written back in the second pass only. -/
theorem flush_second : ∀ t : Fin cfg0.N, (cfg0.win 3).flush t = true → 16 ≤ t.val :=
  (by decide +kernel : ∀ t : Fin grid0.N, win0_3.flush t = true → 16 ≤ t.val)

/-- A block of the attention, at any index of the block. -/
theorem attn_block (t : Fin cfg0.N) (h : 16 ≤ t.val) (y : S1024x4096.Idx) (i : S1024x65536.Idx)
    (h0 : (i 0).val = (y 0).val) (h1 : (i 1).val = (t.val - 16) * 4096 + (y 1).val) :
    attnAt m c t y = attnArr m c i := by
  obtain ⟨r, j, rfl⟩ : ∃ (r : Fin 1024) (j : Fin 4096), y = ix2 r j := ⟨y 0, y 1, by
    funext a
    match a with
    | ⟨0, _⟩ => rfl
    | ⟨1, _⟩ => rfl⟩
  have hN : t.val < 32 := t.isLt
  refine (attn_at m c t h r j).trans (attnArr_at m c i r (kix t.val j) h0 ?_).symm
  refine h1.trans ?_
  show (t.val - 16) * 4096 + j.val = t.val % 16 * 4096 + j.val
  omega

/-- After the run the first result holds the attention. -/
theorem attn_final : (dats m 0 c).arrAt 3 cfg0.N = attnArr m c := by
  refine (dats m 0 c).arrAt_eq_of_covers 3 _ (by decide +kernel) fun t hf y => ?_
  have h := flush_second t hf
  blk_simp
  rw [after0_3]
  refine attn_block m c t h y _ ?_ ?_
  · blk_simp [idx t]
  · blk_simp [idx t]

/-- The readout, at any index. -/
theorem out_block (t : Fin cfg0.N) (h : t.val = 31) (y i : S1024x128.Idx) (h0 : (i 0).val = (y 0).val)
    (h1 : (i 1).val = (y 1).val) : outAt m c t y = outArr m c i := by
  obtain rfl : i = y := by
    funext a
    match a with
    | ⟨0, _⟩ => exact Fin.ext h0
    | ⟨1, _⟩ => exact Fin.ext h1
  obtain ⟨r, d, rfl⟩ : ∃ (r : Fin 1024) (d : Fin 128), i = ix2 r d := ⟨i 0, i 1, by
    funext a
    match a with
    | ⟨0, _⟩ => rfl
    | ⟨1, _⟩ => rfl⟩
  exact out_at m c t h r d

/-- After the run the second result holds the readout. -/
theorem out_final : (dats m 0 c).arrAt 4 cfg0.N = outArr m c := by
  refine (dats m 0 c).arrAt_eq_of_covers 4 _ (by decide +kernel) fun t hf y => ?_
  have h := (flush0_4 t).mp hf
  have hN : t.val < 32 := t.isLt
  blk_simp
  rw [after0_4]
  refine out_block m c t (by omega) y _ ?_ ?_
  · blk_simp [idx t]
  · blk_simp [idx t]

end Cert.KernelIdeal.Readout

end
-- ==== Proof.RefTerms.lean ====
/- The reference's two results, cut into named stages over whole arrays. -/
module

public import proofs.«01_k».proof.Proof.Gen.ReferenceIdeal.Run

@[expose] public section

set_option maxRecDepth 16384

noncomputable section

namespace Cert.ReferenceIdeal.Readout

open Cert.ReferenceIdeal Cert.ReferenceIdeal.Gen Idealize.ShloMosaic Idealize.ShloMosaic.TcCoe Idealize.SL.Sem

variable {F : FTy → Type} [FloatOps F]

/-- The query with every row divided by its norm, the norm kept off zero. -/
def refQ (X : FVec F S1024x128 .f32) : FVec F S1024x128 .f32 :=
  Host.divf X (broadcastInDim S1024x128 ![0, 1] bcast_S1024x1_S1024x128_0_1 (maximumf (Host.sqrt (broadcastInDim S1024x1 ![0] bcast_S1024_S1024x1_0 (Host.reduceAdd (mulf X X) (constant S_ .f32 0x00000000#32) reducesTo_S1024x128_S1024_d1 h_S_))) (broadcastInDim S1024x1 ![] bcast_S_S1024x1 (constant S_ .f32 0x2B8CBCCC#32))))

/-- The keys with every row divided by its norm, the norm kept off zero. -/
def refK (Y : FVec F S65536x128 .f32) : FVec F S65536x128 .f32 :=
  Host.divf Y (broadcastInDim S65536x128 ![0, 1] bcast_S65536x1_S65536x128_0_1 (maximumf (Host.sqrt (broadcastInDim S65536x1 ![0] bcast_S65536_S65536x1_0 (Host.reduceAdd (mulf Y Y) (constant S_ .f32 0x00000000#32) reducesTo_S65536x128_S65536_d1 h_S_))) (broadcastInDim S65536x1 ![] bcast_S_S65536x1 (constant S_ .f32 0x2B8CBCCC#32))))

/-- The similarities: every query row against every key row. -/
def refSims (A : FVec F S1024x128 .f32) (B : FVec F S65536x128 .f32) : FVec F S1024x65536 .f32 :=
  Host.dotGeneral dot_S1024x128_S128x65536_S1024x65536_1_0_0_1_n_n none A (transpose S128x65536 [1, 0] B transposes_S65536x128_S128x65536_1_0)

/-- The largest similarity of every row. -/
def refMax (S : FVec F S1024x65536 .f32) : FVec F S1024 .f32 :=
  maximumf (broadcastInDim S1024 ![] bcast_S_S1024 (constant S_ .f32 0xFF800000#32)) (Host.reduce FloatOps.maximumf S (constant S_ .f32 0xFF800000#32) reducesTo_S1024x65536_S1024_d1 h_S_)

/-- The exponentials of the similarities less a number per row. -/
def refExp (S : FVec F S1024x65536 .f32) (M : FVec F S1024 .f32) : FVec F S1024x65536 .f32 :=
  Host.exp (subf S (broadcastInDim S1024x65536 ![0, 1] bcast_S1024x1_S1024x65536_0_1 (broadcastInDim S1024x1 ![0] bcast_S1024_S1024x1_0 M)))

/-- Every row divided by its sum. -/
def refSoft (E : FVec F S1024x65536 .f32) : FVec F S1024x65536 .f32 :=
  Host.divf E (broadcastInDim S1024x65536 ![0, 1] bcast_S1024x1_S1024x65536_0_1 (broadcastInDim S1024x1 ![0] bcast_S1024_S1024x1_0 (Host.reduceAdd E (constant S_ .f32 0x00000000#32) reducesTo_S1024x65536_S1024_d1 h_S_)))

/-- The attention against the values. -/
def refOut (A : FVec F S1024x65536 .f32) (Z : FVec F S65536x128 .f32) : FVec F S1024x128 .f32 :=
  Host.dotGeneral dot_S1024x65536_S65536x128_S1024x128_1_0_0_1_n_n none A Z

/-- The whole attention of a query and keys. -/
def refAttn (X : FVec F S1024x128 .f32) (Y : FVec F S65536x128 .f32) : FVec F S1024x65536 .f32 :=
  refSoft (refExp (refSims (refQ X) (refK Y)) (refMax (refSims (refQ X) (refK Y))))

/-- The reference's second result is the attention of its arguments. -/
theorem attn_eq (m : (ℓ : Loc nD τ sig) → Buf (Elt F) ℓ) (c : Dev nD) :
    Value.res_main_v22 m c = refAttn (m ((c.tc : Thread nD τ).loc main_arg0)) (m ((c.tc : Thread nD τ).loc main_arg1)) := by
  unfold Value.res_main_v22 refAttn refSoft refExp refMax refSims refK refQ
  rfl

/-- The reference's first result is the attention against its third argument. -/
theorem out_eq (m : (ℓ : Loc nD τ sig) → Buf (Elt F) ℓ) (c : Dev nD) :
    Value.res_main_v23 m c = refOut (refAttn (m ((c.tc : Thread nD τ).loc main_arg0)) (m ((c.tc : Thread nD τ).loc main_arg1)))
      (m ((c.tc : Thread nD τ).loc main_arg2)) := by
  unfold Value.res_main_v23 refOut refAttn refSoft refExp refMax refSims refK refQ
  rfl

end Cert.ReferenceIdeal.Readout

end
-- ==== Proof.RefAt.lean ====
/- The stages of the reference, each read at an index. -/
module

public import proofs.«01_k».proof.Proof.RefTerms
public import proofs.«01_k».proof.Proof.Softmax
public import Idealize.ShloMosaic.Lib.Pipeline.ValueKit
public import Idealize.ShloMosaic.Lib.Pointwise

@[expose] public section

set_option maxRecDepth 16384

noncomputable section

namespace Cert.ReferenceIdeal.Readout

open Cert.ReferenceIdeal Cert.ReferenceIdeal.Gen Idealize.ShloMosaic Idealize.ShloMosaic.TcCoe Idealize.SL.Sem

/-- A normalized query entry. -/
theorem refQ_at (X : FVec Ideal S1024x128 .f32) (r : Fin 1024) (d : Fin 128) :
    refQ X (ix2 r d) = Ideal.div (X (ix2 r d)) (max (Ideal.sqrt (∑ x, X (ix2 r x) * X (ix2 r x))) (Ideal.ofBits .f32 0x2B8CBCCC#32)) := by
  pointwise [refQ]

/-- A normalized key entry. -/
theorem refK_at (X : FVec Ideal S65536x128 .f32) (r : Fin 65536) (d : Fin 128) :
    refK X (ix2 r d) = Ideal.div (X (ix2 r d)) (max (Ideal.sqrt (∑ x, X (ix2 r x) * X (ix2 r x))) (Ideal.ofBits .f32 0x2B8CBCCC#32)) := by
  pointwise [refK]

/-- A similarity. -/
theorem refSims_at (A : FVec Ideal S1024x128 .f32) (B : FVec Ideal S65536x128 .f32) (r : Fin 1024) (k : Fin 65536) :
    refSims A B (ix2 r k) = ∑ x, A (ix2 r x) * B (ix2 k x) := by
  pointwise [refSims]
/-- A maximum reduction, from the bottom element, of an array of real numbers is a real number wherever some index drops. -/
theorem reduce_max_real {s t u : Shape} {axes : List (Fin s.rank)} (h : s.ReducesTo axes t) (hu : 0 < u.numel)
    (S : FVec Ideal s .f32) (init : FVec Ideal u .f32) (hi : init (Shape.Idx.first hu) = (⊥ : EReal))
    (hS : ∀ i, ∃ a : ℝ, S i = (a : EReal)) (j : t.Idx) (i₀ : s.Idx) (h₀ : h.drop i₀ = j) :
    ∃ M : ℝ, Host.reduce (FloatOps.maximumf (F := Ideal) (φ := .f32)) S init h hu j = (M : EReal) := by
  rw [Host.reduce_eq_fold, hi]
  exact Cert.Spec.fold_max_real _ S hS ⟨i₀, by simp only [Finset.mem_filter, Finset.mem_univ, true_and]; exact h₀⟩

/-- The first coordinate of a pair index is what dropping its second axis keeps. -/
theorem drop_second (r : Fin 1024) (k : Fin 65536) : reducesTo_S1024x65536_S1024_d1.drop (ix2 r k) = ix1 r := by
  funext a
  match a with
  | ⟨0, _⟩ => rfl

/-- A maximum against the bottom element is the other operand. -/
theorem maximumf_of_bot {s : Shape} (A B : FVec Ideal s .f32) (j : s.Idx) (h : A j = (⊥ : EReal)) : maximumf A B j = B j := by
  show max (A j) (B j) = B j
  rw [h, max_eq_right bot_le]

/-- The constant that the reference's maximum is taken against is the bottom element. -/
theorem bot_entry (r : Fin 1024) :
    broadcastInDim S1024 ![] bcast_S_S1024 (constant (F := Ideal) S_ .f32 0xFF800000#32) (ix1 r) = (⊥ : EReal) :=
  Cert.Consts.ofBits_neg_inf

/-- The largest entry of a row of real numbers is a real number. -/
theorem refMax_real (S : FVec Ideal S1024x65536 .f32) (hS : ∀ i, ∃ a : ℝ, S i = (a : EReal)) (r : Fin 1024) :
    ∃ M : ℝ, refMax S (ix1 r) = (M : EReal) := by
  obtain ⟨a, ha⟩ := reduce_max_real reducesTo_S1024x65536_S1024_d1 h_S_ S (constant S_ .f32 0xFF800000#32)
    Cert.Consts.ofBits_neg_inf hS (ix1 r) (ix2 r ⟨0, by norm_num⟩) (drop_second r _)
  refine ⟨a, ?_⟩
  unfold refMax
  exact (maximumf_of_bot _ _ _ (bot_entry r)).trans ha

/-- An exponential. -/
theorem refExp_at (S : FVec Ideal S1024x65536 .f32) (M : FVec Ideal S1024 .f32) (r : Fin 1024) (k : Fin 65536) :
    refExp S M (ix2 r k) = Ideal.exp (S (ix2 r k) - M (ix1 r)) := by
  pointwise [refExp]

/-- A quotient. -/
theorem refSoft_at (E : FVec Ideal S1024x65536 .f32) (r : Fin 1024) (k : Fin 65536) :
    refSoft E (ix2 r k) = Ideal.div (E (ix2 r k)) (∑ x, E (ix2 r x)) := by
  pointwise [refSoft]

/-- An entry of the readout. -/
theorem refOut_at (A : FVec Ideal S1024x65536 .f32) (Z : FVec Ideal S65536x128 .f32) (r : Fin 1024) (d : Fin 128) :
    refOut A Z (ix2 r d) = ∑ x, A (ix2 r x) * Z (ix2 x d) := by
  pointwise [refOut]

end Cert.ReferenceIdeal.Readout

end
-- ==== Proof.RefValue.lean ====
/- What the reference computes: the attention and the readout of its arguments. -/
module

public import proofs.«01_k».proof.Proof.RefAt
public import proofs.«01_k».proof.Proof.Attn

@[expose] public section

set_option maxRecDepth 16384

noncomputable section

namespace Cert.ReferenceIdeal.Readout

open Cert.ReferenceIdeal Cert.ReferenceIdeal.Gen Idealize.ShloMosaic Idealize.ShloMosaic.TcCoe Idealize.SL.Sem
open Cert.Spec Cert.Consts

/-- The reference's normalized query. -/
theorem refQ_eq (X : FVec Ideal S1024x128 .f32) (r : Fin 1024) (d : Fin 128) : refQ X (ix2 r d) = (unitR (row X r) d : EReal) := by
  rw [refQ_at, ofBits_eps]
  exact unit_eq (row X r) d

/-- The reference's normalized keys. -/
theorem refK_eq (Y : FVec Ideal S65536x128 .f32) (k : Fin 65536) (d : Fin 128) : refK Y (ix2 k d) = (unitR (row Y k) d : EReal) := by
  rw [refK_at, ofBits_eps]
  exact unit_eq (row Y k) d

/-- The reference's similarities. -/
theorem refSims_eq (X : FVec Ideal S1024x128 .f32) (Y : FVec Ideal S65536x128 .f32) (r : Fin 1024) (k : Fin 65536) :
    refSims (refQ X) (refK Y) (ix2 r k) = (sim X Y r k : EReal) := by
  rw [refSims_at, ← sum_unit]
  exact Finset.sum_congr rfl fun d _ => by rw [refQ_eq, refK_eq]

/-- Every similarity is a real number. -/
theorem refSims_real (X : FVec Ideal S1024x128 .f32) (Y : FVec Ideal S65536x128 .f32) (i : S1024x65536.Idx) :
    ∃ a : ℝ, refSims (refQ X) (refK Y) i = (a : EReal) := by
  obtain ⟨r, k, rfl⟩ : ∃ (r : Fin 1024) (k : Fin 65536), i = ix2 r k := ⟨i 0, i 1, by
    funext a
    match a with
    | ⟨0, _⟩ => rfl
    | ⟨1, _⟩ => rfl⟩
  exact ⟨sim X Y r k, refSims_eq X Y r k⟩

/-- The reference's attention. -/
theorem refAttn_eq (X : FVec Ideal S1024x128 .f32) (Y : FVec Ideal S65536x128 .f32) (r : Fin 1024) (k : Fin 65536) :
    refAttn X Y (ix2 r k) = (attn X Y r k : EReal) := by
  obtain ⟨M, hM⟩ := refMax_real (refSims (refQ X) (refK Y)) (refSims_real X Y) r
  unfold refAttn
  rw [refSoft_at]
  simp only [refExp_at, refSims_eq, hM]
  exact ref_soft (sim X Y r) M k

/-- The reference's readout. -/
theorem refOut_eq (X : FVec Ideal S1024x128 .f32) (Y Z : FVec Ideal S65536x128 .f32) (r : Fin 1024) (d : Fin 128) :
    refOut (refAttn X Y) Z (ix2 r d) = readout X Y Z r d := by
  rw [refOut_at]
  unfold readout
  exact Finset.sum_congr rfl fun k _ => by rw [refAttn_eq]

end Cert.ReferenceIdeal.Readout

end
-- ==== Proof.Equation.lean ====
/- The equation: from equal arguments the reference's results are the arrays the kernel leaves. -/
module

public import proofs.«01_k».proof.Proof.Arrays
public import proofs.«01_k».proof.Proof.RefValue

@[expose] public section

set_option maxRecDepth 16384

noncomputable section

namespace Cert.Readout

open Idealize.ShloMosaic Idealize.ShloMosaic.TcCoe Idealize.SL.Sem
open Cert.Spec

/-- The reference's attention, at any index. -/
theorem refAttn_fun (X : FVec Ideal Cert.ReferenceIdeal.S1024x128 .f32) (Y : FVec Ideal Cert.ReferenceIdeal.S65536x128 .f32) :
    Cert.ReferenceIdeal.Readout.refAttn X Y
      = fun i : Cert.ReferenceIdeal.S1024x65536.Idx => ((attn X Y (i 0) (i 1) : ℝ) : EReal) := by
  funext i
  obtain ⟨r, k, rfl⟩ : ∃ (r : Fin 1024) (k : Fin 65536), i = ix2 r k := ⟨i 0, i 1, by
    funext a
    match a with
    | ⟨0, _⟩ => rfl
    | ⟨1, _⟩ => rfl⟩
  exact Cert.ReferenceIdeal.Readout.refAttn_eq X Y r k

/-- The reference's readout, at any index. -/
theorem refOut_fun (X : FVec Ideal Cert.ReferenceIdeal.S1024x128 .f32) (Y Z : FVec Ideal Cert.ReferenceIdeal.S65536x128 .f32) :
    Cert.ReferenceIdeal.Readout.refOut (Cert.ReferenceIdeal.Readout.refAttn X Y) Z
      = fun i : Cert.ReferenceIdeal.S1024x128.Idx => readout X Y Z (i 0) (i 1) := by
  funext i
  obtain ⟨r, d, rfl⟩ : ∃ (r : Fin 1024) (d : Fin 128), i = ix2 r d := ⟨i 0, i 1, by
    funext a
    match a with
    | ⟨0, _⟩ => rfl
    | ⟨1, _⟩ => rfl⟩
  exact Cert.ReferenceIdeal.Readout.refOut_eq X Y Z r d

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The reference's attention is the array the kernel leaves. -/
theorem attn_agree
    (h0 : m' ((c : Thread Cert.ReferenceIdeal.nD Cert.ReferenceIdeal.τ).loc Cert.ReferenceIdeal.main_arg0)
      = Cert.KernelIdeal.Readout.argQ m c)
    (h1 : m' ((c : Thread Cert.ReferenceIdeal.nD Cert.ReferenceIdeal.τ).loc Cert.ReferenceIdeal.main_arg1)
      = Cert.KernelIdeal.Readout.argK m c) :
    Cert.ReferenceIdeal.Value.res_main_v22 m' c = Cert.KernelIdeal.Readout.attnArr m c := by
  rw [Cert.ReferenceIdeal.Readout.attn_eq, refAttn_fun, h0, h1]
  rfl

/-- The reference's readout is the array the kernel leaves. -/
theorem out_agree
    (h0 : m' ((c : Thread Cert.ReferenceIdeal.nD Cert.ReferenceIdeal.τ).loc Cert.ReferenceIdeal.main_arg0)
      = Cert.KernelIdeal.Readout.argQ m c)
    (h1 : m' ((c : Thread Cert.ReferenceIdeal.nD Cert.ReferenceIdeal.τ).loc Cert.ReferenceIdeal.main_arg1)
      = Cert.KernelIdeal.Readout.argK m c)
    (h2 : m' ((c : Thread Cert.ReferenceIdeal.nD Cert.ReferenceIdeal.τ).loc Cert.ReferenceIdeal.main_arg2)
      = Cert.KernelIdeal.Readout.argV m c) :
    Cert.ReferenceIdeal.Value.res_main_v23 m' c = Cert.KernelIdeal.Readout.outArr m c := by
  rw [Cert.ReferenceIdeal.Readout.out_eq, refOut_fun, h0, h1, h2]
  rfl

end Cert.Readout

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The kernel runs and leaves its arguments and its semaphores as they were. -/
theorem kernel_quiescent : Cert.quiescent_Kernel (hKernel := Cert.Kernel.Gen.facts) :=
  fun m ρ _ => Cert.Kernel.Gen.frame m ρ

/-- So does the kernel with its named constants. -/
theorem kernelIdeal_quiescent : Cert.quiescent_KernelIdeal (hKernelIdeal := Cert.KernelIdeal.Gen.facts) :=
  fun m ρ _ => Cert.KernelIdeal.Gen.frame m ρ

/-- So does the reference. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Where the kernel prints the two words, the certificate's values stand for them in exact arithmetic. -/
theorem constants_preserved : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "log2e" .f32 0x3FB8AA3B#32 (((Real.log 2)⁻¹ : ℝ) : EReal) rfl⟩

/-- In exact arithmetic the kernel and the reference leave the same readout and the same attention. -/
theorem results_agree : Cert.algebraic_KernelIdeal_ReferenceIdeal (hKernelIdeal := Cert.KernelIdeal.Gen.facts)
    (hReferenceIdeal := Cert.ReferenceIdeal.Gen.facts) :=
  fun m g m' g' _ hagree =>
    ⟨fun c => Cert.KernelIdeal.Readout.outArr m c, fun c => Cert.KernelIdeal.Readout.attnArr m c,
      (θ_run Cert.KernelIdeal.defs _ _).mono
        (fun r h c => ⟨(h c).2.1.trans (Cert.KernelIdeal.Readout.out_final m c),
          (h c).1.trans (Cert.KernelIdeal.Readout.attn_final m c), (h c).2.2⟩)
        (Cert.KernelIdeal.Value.run_blocks (F := Ideal) m g),
      (θ_run Cert.ReferenceIdeal.defs _ _).mono
        (fun r h c => ⟨(h c).1.trans (Cert.Readout.out_agree m m' c (hagree c).1 (hagree c).2.1 (hagree c).2.2),
          (h c).2.1.trans (Cert.Readout.attn_agree m m' c (hagree c).1 (hagree c).2.1), (h c).2.2⟩)
        (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, kernel_quiescent,
    kernelIdeal_quiescent, reference_quiescent, constants_preserved, results_agree⟩

end Cert.Proof

end
